-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x5120 : Shape := ⟨3, ![256, 1, 5120]⟩
abbrev S2560x2560 : Shape := ⟨2, ![2560, 2560]⟩
abbrev S40x2560 : Shape := ⟨2, ![40, 2560]⟩
abbrev S256x5120 : Shape := ⟨2, ![256, 5120]⟩
abbrev S256x2560 : Shape := ⟨2, ![256, 2560]⟩
abbrev S2560x256 : Shape := ⟨2, ![2560, 256]⟩
abbrev S40x256 : Shape := ⟨2, ![40, 256]⟩
abbrev S256x256 : Shape := ⟨2, ![256, 256]⟩
abbrev S128x256 : Shape := ⟨2, ![128, 256]⟩
abbrev S2x256 : Shape := ⟨2, ![2, 256]⟩
abbrev S2x128x256 : Shape := ⟨3, ![2, 128, 256]⟩
abbrev S2x1x256 : Shape := ⟨3, ![2, 1, 256]⟩

abbrev nBuf : Space → Nat
  | .hbm => 9
  | .vmem => 15
  | .smem => 0
  | _ => 0

abbrev bufTy : (tb : Table) → Fin (tcTables nBuf tb) → BufTy
  | .hbm, ⟨0, _⟩ => ⟨S256x1x5120, .bf16⟩
  | .hbm, ⟨1, _⟩ => ⟨S2560x2560, .i8⟩
  | .hbm, ⟨2, _⟩ => ⟨S40x2560, .bf16⟩
  | .hbm, ⟨3, _⟩ => ⟨S40x2560, .bf16⟩
  | .hbm, ⟨4, _⟩ => ⟨S2560x2560, .i8⟩
  | .hbm, ⟨5, _⟩ => ⟨S40x2560, .bf16⟩
  | .hbm, ⟨6, _⟩ => ⟨S40x2560, .bf16⟩
  | .hbm, ⟨7, _⟩ => ⟨S256x5120, .bf16⟩
  | .hbm, ⟨8, _⟩ => ⟨S256x2560, .bf16⟩
  | .local _ .vmem, ⟨0, _⟩ => ⟨S256x5120, .bf16⟩
  | .local _ .vmem, ⟨1, _⟩ => ⟨S2560x256, .i8⟩
  | .local _ .vmem, ⟨2, _⟩ => ⟨S2560x256, .i8⟩
  | .local _ .vmem, ⟨3, _⟩ => ⟨S40x256, .bf16⟩
  | .local _ .vmem, ⟨4, _⟩ => ⟨S40x256, .bf16⟩
  | .local _ .vmem, ⟨5, _⟩ => ⟨S40x256, .bf16⟩
  | .local _ .vmem, ⟨6, _⟩ => ⟨S40x256, .bf16⟩
  | .local _ .vmem, ⟨7, _⟩ => ⟨S2560x256, .i8⟩
  | .local _ .vmem, ⟨8, _⟩ => ⟨S2560x256, .i8⟩
  | .local _ .vmem, ⟨9, _⟩ => ⟨S40x256, .bf16⟩
  | .local _ .vmem, ⟨10, _⟩ => ⟨S40x256, .bf16⟩
  | .local _ .vmem, ⟨11, _⟩ => ⟨S40x256, .bf16⟩
  | .local _ .vmem, ⟨12, _⟩ => ⟨S40x256, .bf16⟩
  | .local _ .vmem, ⟨13, _⟩ => ⟨S256x256, .bf16⟩
  | .local _ .vmem, ⟨14, _⟩ => ⟨S256x256, .bf16⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S40x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S256x1x5120 : Shape := ⟨3, ![256, 1, 5120]⟩
abbrev S2560x2560 : Shape := ⟨2, ![2560, 2560]⟩
abbrev S40x2560 : Shape := ⟨2, ![40, 2560]⟩
abbrev S256x1x40x64x2 : Shape := ⟨5, ![256, 1, 40, 64, 2]⟩
abbrev S256x1x40x64x1 : Shape := ⟨5, ![256, 1, 40, 64, 1]⟩
abbrev S256x1x40x64 : Shape := ⟨4, ![256, 1, 40, 64]⟩
abbrev S40x64x2560 : Shape := ⟨3, ![40, 64, 2560]⟩
abbrev S_ : Shape := ⟨0, ![]⟩
abbrev S40x1x2560 : Shape := ⟨3, ![40, 1, 2560]⟩
abbrev S256x1x2560 : Shape := ⟨3, ![256, 1, 2560]⟩
abbrev S256x2560 : Shape := ⟨2, ![256, 2560]⟩

abbrev nBuf : Space → Nat
  | .hbm => 74
  | .vmem => 0
  | .smem => 0
  | _ => 0

abbrev bufTy : (tb : Table) → Fin (tcTables nBuf tb) → BufTy
  | .hbm, ⟨0, _⟩ => ⟨S256x1x5120, .bf16⟩
  | .hbm, ⟨1, _⟩ => ⟨S2560x2560, .i8⟩
  | .hbm, ⟨2, _⟩ => ⟨S40x2560, .bf16⟩
  | .hbm, ⟨3, _⟩ => ⟨S40x2560, .bf16⟩
  | .hbm, ⟨4, _⟩ => ⟨S2560x2560, .i8⟩
  | .hbm, ⟨5, _⟩ => ⟨S40x2560, .bf16⟩
  | .hbm, ⟨6, _⟩ => ⟨S40x2560, .bf16⟩
  | .hbm, ⟨7, _⟩ => ⟨S256x1x40x64x2, .bf16⟩
  | .hbm, ⟨8, _⟩ => ⟨S256x1x40x64x1, .bf16⟩
  | .hbm, ⟨9, _⟩ => ⟨S256x1x40x64, .bf16⟩
  | .hbm, ⟨10, _⟩ => ⟨S256x1x40x64x1, .bf16⟩
  | .hbm, ⟨11, _⟩ => ⟨S256x1x40x64, .bf16⟩
  | .hbm, ⟨12, _⟩ => ⟨S2560x2560, .i32⟩
  | .hbm, ⟨13, _⟩ => ⟨S40x64x2560, .i32⟩
  | .hbm, ⟨14, _⟩ => ⟨S_, .i32⟩
  | .hbm, ⟨15, _⟩ => ⟨S40x64x2560, .i32⟩
  | .hbm, ⟨16, _⟩ => ⟨S40x64x2560, .i32⟩
  | .hbm, ⟨17, _⟩ => ⟨S40x64x2560, .bf16⟩
  | .hbm, ⟨18, _⟩ => ⟨S40x1x2560, .bf16⟩
  | .hbm, ⟨19, _⟩ => ⟨S40x64x2560, .bf16⟩
  | .hbm, ⟨20, _⟩ => ⟨S40x64x2560, .bf16⟩
  | .hbm, ⟨21, _⟩ => ⟨S40x1x2560, .bf16⟩
  | .hbm, ⟨22, _⟩ => ⟨S40x64x2560, .bf16⟩
  | .hbm, ⟨23, _⟩ => ⟨S40x64x2560, .bf16⟩
  | .hbm, ⟨24, _⟩ => ⟨S_, .i32⟩
  | .hbm, ⟨25, _⟩ => ⟨S40x64x2560, .i32⟩
  | .hbm, ⟨26, _⟩ => ⟨S40x64x2560, .i32⟩
  | .hbm, ⟨27, _⟩ => ⟨S40x64x2560, .bf16⟩
  | .hbm, ⟨28, _⟩ => ⟨S40x1x2560, .bf16⟩
  | .hbm, ⟨29, _⟩ => ⟨S40x64x2560, .bf16⟩
  | .hbm, ⟨30, _⟩ => ⟨S40x64x2560, .bf16⟩
  | .hbm, ⟨31, _⟩ => ⟨S40x1x2560, .bf16⟩
  | .hbm, ⟨32, _⟩ => ⟨S40x64x2560, .bf16⟩
  | .hbm, ⟨33, _⟩ => ⟨S40x64x2560, .bf16⟩
  | .hbm, ⟨34, _⟩ => ⟨S256x1x2560, .f32⟩
  | .hbm, ⟨35, _⟩ => ⟨S256x1x2560, .f32⟩
  | .hbm, ⟨36, _⟩ => ⟨S256x1x2560, .f32⟩
  | .hbm, ⟨37, _⟩ => ⟨S2560x2560, .i32⟩
  | .hbm, ⟨38, _⟩ => ⟨S40x64x2560, .i32⟩
  | .hbm, ⟨39, _⟩ => ⟨S_, .i32⟩
  | .hbm, ⟨40, _⟩ => ⟨S40x64x2560, .i32⟩
  | .hbm, ⟨41, _⟩ => ⟨S40x64x2560, .i32⟩
  | .hbm, ⟨42, _⟩ => ⟨S40x64x2560, .bf16⟩
  | .hbm, ⟨43, _⟩ => ⟨S40x1x2560, .bf16⟩
  | .hbm, ⟨44, _⟩ => ⟨S40x64x2560, .bf16⟩
  | .hbm, ⟨45, _⟩ => ⟨S40x64x2560, .bf16⟩
  | .hbm, ⟨46, _⟩ => ⟨S40x1x2560, .bf16⟩
  | .hbm, ⟨47, _⟩ => ⟨S40x64x2560, .bf16⟩
  | .hbm, ⟨48, _⟩ => ⟨S40x64x2560, .bf16⟩
  | .hbm, ⟨49, _⟩ => ⟨S_, .i32⟩
  | .hbm, ⟨50, _⟩ => ⟨S40x64x2560, .i32⟩
  | .hbm, ⟨51, _⟩ => ⟨S40x64x2560, .i32⟩
  | .hbm, ⟨52, _⟩ => ⟨S40x64x2560, .bf16⟩
  | .hbm, ⟨53, _⟩ => ⟨S40x1x2560, .bf16⟩
  | .hbm, ⟨54, _⟩ => ⟨S40x64x2560, .bf16⟩
  | .hbm, ⟨55, _⟩ => ⟨S40x64x2560, .bf16⟩
  | .hbm, ⟨56, _⟩ => ⟨S40x1x2560, .bf16⟩
  | .hbm, ⟨57, _⟩ => ⟨S40x64x2560, .bf16⟩
  | .hbm, ⟨58, _⟩ => ⟨S40x64x2560, .bf16⟩
  | .hbm, ⟨59, _⟩ => ⟨S256x1x2560, .f32⟩
  | .hbm, ⟨60, _⟩ => ⟨S256x1x2560, .f32⟩
  | .hbm, ⟨61, _⟩ => ⟨S256x1x2560, .f32⟩
  | .hbm, ⟨62, _⟩ => ⟨S256x1x2560, .f32⟩
  | .hbm, ⟨63, _⟩ => ⟨S256x1x2560, .f32⟩
  | .hbm, ⟨64, _⟩ => ⟨S_, .f32⟩
  | .hbm, ⟨65, _⟩ => ⟨S256x1x2560, .f32⟩
  | .hbm, ⟨66, _⟩ => ⟨S256x1x2560, .f32⟩
  | .hbm, ⟨67, _⟩ => ⟨S_, .f32⟩
  | .hbm, ⟨68, _⟩ => ⟨S256x1x2560, .f32⟩
  | .hbm, ⟨69, _⟩ => ⟨S256x1x2560, .f32⟩
  | .hbm, ⟨70, _⟩ => ⟨S256x1x2560, .f32⟩
  | .hbm, ⟨71, _⟩ => ⟨S256x1x2560, .f32⟩
  | .hbm, ⟨72, _⟩ => ⟨S256x1x2560, .bf16⟩
  | .hbm, ⟨73, _⟩ => ⟨S256x2560, .bf16⟩
  | _, _ => ⟨S256x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Proof.Nibble.lean ====
/-
  Hand-written, untrusted. A PACKED BYTE'S TWO FOUR-BIT CODES. A byte holds two codes: the low four bits are the code of an
  even row of the weight matrix, the high four bits the code of the odd row after it. `code b par` is the code of parity
  `par` as a number. The kernel and the reference extract the codes by different integer operations:

    * the kernel widens the byte to 32 bits, puts the low code in bits 0–3 and the high code in bits 16–19 of one word, reads
      that word as two 16-bit rows (`tpu.bitcast`), and keeps four bits of each, read unsigned;
    * the reference widens the byte to 32 bits and takes `b & 15` for the even rows and `b >> 4` for the odd ones, read signed.

  Both are `code` (`packed_code`, `low_code`, `high_code`); each is a statement about the 256 bytes, decided.
-/
module

public import Idealize.ShloMosaic.PureOps.Vector

@[expose] public section

namespace Cert.Proof

open Idealize.ShloMosaic

/-- The code of row parity `par` in the byte `b`: its low four bits for an even row, its high four bits for an odd one. -/
def code (b : BitVec 8) (par : Nat) : Nat := if par = 0 then b.toNat % 16 else b.toNat / 16

/-- The word the kernel packs from one byte: the low code in bits 0–3, the high code in bits 16–19. -/
def packWord (b : BitVec 8) : BitVec 32 :=
  IntOp.ori (IntOp.andi (b.setWidth 32) 15#32) (IntOp.shli .vector (IntOp.shrsi .vector (b.setWidth 32) 4#32) 16#32)

/-- Four bits of the packed word's half number `par` are the code of that parity. -/
theorem packed_code (b : BitVec 8) (par : Nat) (hpar : par < 2) :
    (((packWord b).extractLsb' (16 * par) 16).setWidth 4).toNat = code b par := by
  have h : ∀ (n : Fin 256) (p : Fin 2),
      (((packWord (BitVec.ofNat 8 n.val)).extractLsb' (16 * p.val) 16).setWidth 4).toNat = code (BitVec.ofNat 8 n.val) p.val := by
    decide +kernel
  have := h ⟨b.toNat, b.isLt⟩ ⟨par, hpar⟩
  simpa using this

/-- The reference's low code: `b & 15` of the widened byte, read signed. -/
theorem low_code (b : BitVec 8) : (IntOp.andi (b.setWidth 32) 15#32).toInt = (code b 0 : Int) := by
  have h : ∀ n : Fin 256, (IntOp.andi ((BitVec.ofNat 8 n.val).setWidth 32) 15#32).toInt = (code (BitVec.ofNat 8 n.val) 0 : Int) := by
    decide +kernel
  have := h ⟨b.toNat, b.isLt⟩
  simpa using this

/-- The reference's high code: `b >> 4` of the widened byte, read signed. -/
theorem high_code (b : BitVec 8) : (IntOp.shrsi .host (b.setWidth 32) 4#32).toInt = (code b 1 : Int) := by
  have h : ∀ n : Fin 256, (IntOp.shrsi .host ((BitVec.ofNat 8 n.val).setWidth 32) 4#32).toInt = (code (BitVec.ofNat 8 n.val) 1 : Int) := by
    decide +kernel
  have := h ⟨b.toNat, b.isLt⟩
  simpa using this

end Cert.Proof
-- ==== Proof.Chunk.lean ====
/-
  Hand-written, untrusted. WHAT ONE STEP OF THE KERNEL COMPUTES. One step takes 256 consecutive columns of x and the matching
  256 rows of a weight matrix, packed two to a byte (128 rows of bytes), with two rows of scales and two of minima (one per
  group of 128 weight rows). It unpacks the codes, forms `code * scale + minimum`, and multiplies: a 256×256 product into a
  zero accumulator. `chunk` is that step as the kernel writes it; `chunk_apply` reads it over the extended reals at one
  position (r, j):

      Σ_{k < 256}  x(r, k) · (code(p(k / 2, j), k mod 2) · s(k / 128, j) + mn(k / 128, j)).
-/
module

public import proofs.«01_k».proof.Proof.Gen.KernelIdeal
public import proofs.«01_k».proof.Proof.Nibble
public import Idealize.ShloMosaic.Lib.BitcastPair
public import Idealize.ShloMosaic.Lib.MatmulPlain
public import Idealize.ShloMosaic.Lib.Pointwise.Tactic
public import Idealize.ShloMosaic.Lib.Pointwise.Reshape
public import Idealize.ShloMosaic.Lib.Pointwise.IndexBridge

@[expose] public section

noncomputable section

namespace Cert.Proof

open Idealize.ShloMosaic Cert.KernelIdeal Cert.KernelIdeal.Gen
open scoped BigOperators

section Defs
variable {F : FTy → Type} [FloatOps F]

/-- The packed bytes as 32-bit words: the low code in the low half, the high code in the high half. -/
def packed (p : Vec F S128x256 .i8) : IVec S128x256 32 :=
  ori (andi (extui 32 p natLt_8_32) (broadcast S128x256 15#32))
    (shli (shrsi (extui 32 p natLt_8_32) (broadcast S128x256 4#32)) (broadcast S128x256 16#32))

/-- The 256 rows of codes of 128 rows of packed bytes, as floats. -/
def codes (p : Vec F S128x256 .i8) : FVec F S256x256 .bf16 :=
  uitofp .bf16 (trunci 4 (bitcast S256x256 16 (packed p) bitcasts_S128x256_w32_S256x256_w16) natLt_4_16)

/-- A group's row (of scales or of minima) repeated over the group's 128 weight rows. -/
def spread (s : Vec F S2x256 .bf16) : FVec F S2x128x256 .bf16 :=
  broadcastTo S2x128x256 (shapeCast S2x1x256 s shapeCasts_S2x256_S2x1x256) broadcasts_S2x1x256_S2x128x256

/-- The weights: code times scale plus minimum. -/
def weights (p : Vec F S128x256 .i8) (s mn : Vec F S2x256 .bf16) : FVec F S256x256 .bf16 :=
  shapeCast S256x256 (addf (mulf (shapeCast S2x128x256 (codes p) shapeCasts_S256x256_S2x128x256) (spread s)) (spread mn))
    shapeCasts_S2x128x256_S256x256

/-- One step: 256 columns of x times 256 rows of weights. -/
def chunk (p : Vec F S128x256 .i8) (s mn : Vec F S2x256 .bf16) (x : Vec F S256x256 .bf16) : FVec F S256x256 .f32 :=
  matmul dot_S256x256_S256x256_S256x256_1_0_0_1_n_n none (shapeCast S256x256 x shapeCasts_S256x256_S256x256) (weights p s mn)
    (constant S256x256 .f32 0x00000000#32)

end Defs

/-- Row `k` of the codes is the code of parity `k mod 2` in byte row `k / 2`. -/
theorem codes_apply (p : Vec Ideal S128x256 .i8) (k j : Fin 256) :
    codes (F := Ideal) p (ix2 k j) = ((code (p (ix2 ⟨k.val / 2, by omega⟩ j)) (k.val % 2) : ℝ) : EReal) := by
  have hrow : S256x256.row (ix2 k j) = k.val := rfl
  have hb : bitcast S256x256 16 (packed (F := Ideal) p) bitcasts_S128x256_w32_S256x256_w16 (ix2 k j)
      = (packWord (p (ix2 ⟨k.val / 2, by omega⟩ j))).extractLsb' (16 * (k.val % 2)) 16 := by
    rw [bitcast_32_16]
    have hi : ∀ h, bitcasts_S128x256_w32_S256x256_w16.srcIdx (ix2 k j) (S256x256.row (ix2 k j) / 2) h
        = ix2 ⟨k.val / 2, by omega⟩ j := by
      intro h
      funext a
      match a with
      | ⟨0, _⟩ => exact Fin.ext (Shape.Bitcasts.srcIdx_row _ _ _ _ _ rfl)
      | ⟨1, _⟩ => exact Fin.ext (Shape.Bitcasts.srcIdx_other _ _ _ _ _ (show ¬ 1 + 2 = 2 by decide))
    rw [hi]
    rfl
  show ((((bitcast S256x256 16 (packed (F := Ideal) p) bitcasts_S128x256_w32_S256x256_w16 (ix2 k j)).setWidth 4).toNat : ℝ) : EReal) = _
  rw [hb, packed_code _ _ (Nat.mod_lt _ (by decide))]

/-- The repeated row at (g, i, j) is the row of group `g` at `j`. -/
theorem spread_apply (s : Vec Ideal S2x256 .bf16) (g : Fin 2) (i : Fin 128) (j : Fin 256) :
    spread (F := Ideal) s (ix3 g i j) = s (ix2 g j) := by
  unfold spread
  pointwise

/-- The weight of row `k`, column `j`. -/
theorem weights_apply (p : Vec Ideal S128x256 .i8) (s mn : Vec Ideal S2x256 .bf16) (k j : Fin 256) :
    weights (F := Ideal) p s mn (ix2 k j)
      = ((code (p (ix2 ⟨k.val / 2, by omega⟩ j)) (k.val % 2) : ℝ) : EReal) * s (ix2 ⟨k.val / 128, by omega⟩ j)
        + mn (ix2 ⟨k.val / 128, by omega⟩ j) := by
  have h1 : weights (F := Ideal) p s mn (ix2 k j)
      = codes (F := Ideal) p (ix2 k j) * spread (F := Ideal) s (ix3 ⟨k.val / 128, by omega⟩ ⟨k.val % 128, by omega⟩ j)
        + spread (F := Ideal) mn (ix3 ⟨k.val / 128, by omega⟩ ⟨k.val % 128, by omega⟩ j) := by
    unfold weights
    pointwise
  rw [h1, codes_apply, spread_apply, spread_apply]

/-- One step at one position. -/
theorem chunk_apply (p : Vec Ideal S128x256 .i8) (s mn : Vec Ideal S2x256 .bf16) (x : Vec Ideal S256x256 .bf16) (r j : Fin 256) :
    chunk (F := Ideal) p s mn x (ix2 r j)
      = ∑ k : Fin 256, x (ix2 r k) * (((code (p (ix2 ⟨k.val / 2, by omega⟩ j)) (k.val % 2) : ℝ) : EReal)
          * s (ix2 ⟨k.val / 128, by omega⟩ j) + mn (ix2 ⟨k.val / 128, by omega⟩ j)) := by
  have hd : (dot_S256x256_S256x256_S256x256_1_0_0_1_n_n : DotDims S256x256 S256x256 S256x256) = DotDims.plain 256 256 256 := rfl
  unfold chunk
  rw [show shapeCast S256x256 x shapeCasts_S256x256_S256x256 = x from funext fun i => by pointwise]
  refine (Ideal.matmul_plain_apply none x (weights (F := Ideal) p s mn) (constant S256x256 .f32 0x00000000#32) r j).trans ?_
  simp only [← ix2_eq_valueIdx]
  rw [show (constant (F := Ideal) S256x256 .f32 0x00000000#32) (ix2 r j) = 0 from Ideal.ofBits_zero_f32, zero_add]
  exact Finset.sum_congr rfl fun k _ => by rw [weights_apply]

end Cert.Proof

end
-- ==== Proof.Spec.lean ====
/-
  Hand-written, untrusted. THE RESULT AS ONE FORMULA, over the extended reals. `proj` is the product of one row of x with one
  column of a quantized weight matrix: weight K of the column is `code * scale + minimum`, its code the half `K mod 2` of byte
  `K / 2`, its scale and its minimum those of group `K / 128`. `swiglu` is what becomes of the two products of one position:
  `gate * logistic gate * up`.

  The rest of the file splits the sum over the 5120 weights of a column in the two ways the programs do:
    * the kernel takes 20 steps of 256 (`proj_eq_steps`),
    * the reference takes the even weights of all 40 groups, then the odd ones (`proj_eq_halves`).
  Addition of extended reals is commutative and associative, so each is the same sum.
-/
module

public import proofs.«01_k».proof.Proof.Nibble
public import Idealize.ShloMosaic.PureOps.Ideal

@[expose] public section

noncomputable section

namespace Cert.Proof

open Idealize.ShloMosaic
open scoped BigOperators

/-- Weight `K` of a column: `code * scale + minimum`. -/
def weight (w : Fin 2560 → BitVec 8) (s mn : Fin 40 → EReal) (K : Fin 5120) : EReal :=
  ((code (w ⟨K.val / 2, by omega⟩) (K.val % 2) : ℝ) : EReal) * s ⟨K.val / 128, by omega⟩ + mn ⟨K.val / 128, by omega⟩

/-- A row of x times a column of weights. -/
def proj (x : Fin 5120 → EReal) (w : Fin 2560 → BitVec 8) (s mn : Fin 40 → EReal) : EReal :=
  ∑ K : Fin 5120, x K * weight w s mn K

/-- The gated product of the two projections. -/
def swiglu (gate up : EReal) : EReal := gate * Ideal.logistic gate * up

/-- A sum over 5120 positions is 20 sums over 256. -/
theorem sum_steps (f : Fin 5120 → EReal) :
    ∑ K, f K = ∑ c : Fin 20, ∑ k : Fin 256, f ⟨256 * c.val + k.val, by omega⟩ := by
  rw [← Fintype.sum_prod_type', ← Equiv.sum_comp (finProdFinEquiv (m := 20) (n := 256)) f]
  refine Finset.sum_congr rfl fun p _ => congrArg f (Fin.ext ?_)
  show p.2.val + 256 * p.1.val = 256 * p.1.val + p.2.val
  omega

/-- A sum over 5120 positions is the even ones of 40 groups of 64 pairs, then the odd ones. -/
theorem sum_halves (f : Fin 5120 → EReal) :
    ∑ K, f K = (∑ g : Fin 40, ∑ k : Fin 64, f ⟨128 * g.val + 2 * k.val, by omega⟩)
      + ∑ g : Fin 40, ∑ k : Fin 64, f ⟨128 * g.val + 2 * k.val + 1, by omega⟩ := by
  rw [← Fintype.sum_prod_type', ← Fintype.sum_prod_type', ← Finset.sum_add_distrib,
    ← Equiv.sum_comp (finProdFinEquiv (m := 2560) (n := 2)) f, Fintype.sum_prod_type,
    ← Equiv.sum_comp (finProdFinEquiv (m := 40) (n := 64))]
  refine Finset.sum_congr rfl fun p _ => ?_
  rw [Fin.sum_univ_two]
  refine congrArg₂ (· + ·) (congrArg f (Fin.ext ?_)) (congrArg f (Fin.ext ?_))
  · show 0 + 2 * (p.2.val + 64 * p.1.val) = 128 * p.1.val + 2 * p.2.val
    omega
  · show 1 + 2 * (p.2.val + 64 * p.1.val) = 128 * p.1.val + 2 * p.2.val + 1
    omega

/-- The product as the kernel sums it: step `c` takes the weights `256 c … 256 c + 255`, that is byte rows from `128 c` and
    groups from `2 c`. -/
theorem proj_eq_steps (x : Fin 5120 → EReal) (w : Fin 2560 → BitVec 8) (s mn : Fin 40 → EReal) :
    proj x w s mn = ∑ c : Fin 20, ∑ k : Fin 256, x ⟨256 * c.val + k.val, by omega⟩
      * (((code (w ⟨128 * c.val + k.val / 2, by omega⟩) (k.val % 2) : ℝ) : EReal) * s ⟨2 * c.val + k.val / 128, by omega⟩
        + mn ⟨2 * c.val + k.val / 128, by omega⟩) := by
  unfold proj
  rw [sum_steps]
  refine Finset.sum_congr rfl fun c _ => Finset.sum_congr rfl fun k _ => ?_
  have e1 : (256 * c.val + k.val) / 2 = 128 * c.val + k.val / 2 := by omega
  have e2 : (256 * c.val + k.val) % 2 = k.val % 2 := by omega
  have e3 : (256 * c.val + k.val) / 128 = 2 * c.val + k.val / 128 := by omega
  simp only [weight, e1, e2, e3]

/-- The product as the reference sums it: byte row `k` of group `g` (row `64 g + k` of all) gives an even weight by its low
    code and an odd one by its high code. -/
theorem proj_eq_halves (x : Fin 5120 → EReal) (w : Fin 2560 → BitVec 8) (s mn : Fin 40 → EReal) :
    proj x w s mn = (∑ g : Fin 40, ∑ k : Fin 64, x ⟨128 * g.val + 2 * k.val, by omega⟩
        * (((code (w ⟨64 * g.val + k.val, by omega⟩) 0 : ℝ) : EReal) * s g + mn g))
      + ∑ g : Fin 40, ∑ k : Fin 64, x ⟨128 * g.val + 2 * k.val + 1, by omega⟩
        * (((code (w ⟨64 * g.val + k.val, by omega⟩) 1 : ℝ) : EReal) * s g + mn g) := by
  unfold proj
  rw [sum_halves]
  refine congrArg₂ (· + ·) ?_ ?_ <;>
    refine Finset.sum_congr rfl fun g _ => Finset.sum_congr rfl fun k _ => ?_
  · have e1 : (128 * g.val + 2 * k.val) / 2 = 64 * g.val + k.val := by omega
    have e2 : (128 * g.val + 2 * k.val) % 2 = 0 := by omega
    have e3 : (128 * g.val + 2 * k.val) / 128 = g.val := by omega
    simp only [weight, e1, e2, e3, Fin.eta]
  · have e1 : (128 * g.val + 2 * k.val + 1) / 2 = 64 * g.val + k.val := by omega
    have e2 : (128 * g.val + 2 * k.val + 1) % 2 = 1 := by omega
    have e3 : (128 * g.val + 2 * k.val + 1) / 128 = g.val := by omega
    simp only [weight, e1, e2, e3, Fin.eta]

end Cert.Proof

end
-- ==== Proof.Block.lean ====
/-
  Hand-written, untrusted. WHAT ONE BLOCK OF THE RESULT HOLDS. At one grid point the kernel has all of x and 256 columns of
  each weight matrix (with their scales and minima). It runs twenty steps (Proof/Chunk.lean) for the gate and twenty for the
  up projection, adding each step's product to the one before, and stores `gate * logistic gate * up`.

    * `out_eq`: the generated term of that store (`Gen.out0_7`) is this, said with `steps`;
    * `out_apply`: over the extended reals, position (r, j) of the block is `swiglu` of the two `proj`s of row r of x with
      column j of the two matrices.
-/
module

public import proofs.«01_k».proof.Proof.Chunk
public import proofs.«01_k».proof.Proof.Spec
public import proofs.«01_k».proof.Proof.Gen.KernelIdeal.Frame
public import Idealize.ShloMosaic.Lib.Pipeline.Value
public import Idealize.ShloMosaic.Lib.Pipeline.ValueKit.Tiles

@[expose] public section

noncomputable section

namespace Cert.Proof

open Idealize.ShloMosaic Cert.KernelIdeal Cert.KernelIdeal.Gen
open scoped BigOperators

section Defs
variable {F : FTy → Type} [FloatOps F]

/-- Byte rows `128 c …` of a weight block: the load of step `c` (taken below 20). -/
def ldW (w : Vec F S2560x256 .i8) (c : Nat) : Vec F S128x256 .i8 :=
  View.ld w (Rect.unit (s := S2560x256) ![128 * (c % 20), 0] S128x256.size fun a =>
    match a with
    | ⟨0, _⟩ => show 128 * (c % 20) + 128 ≤ 2560 by omega
    | ⟨1, _⟩ => show 0 + 256 ≤ 256 by omega)

/-- Group rows `2 c` and `2 c + 1` of a block of scales or minima. -/
def ldS (s : Vec F S40x256 .bf16) (c : Nat) : Vec F S2x256 .bf16 :=
  View.ld s (Rect.unit (s := S40x256) ![2 * (c % 20), 0] S2x256.size fun a =>
    match a with
    | ⟨0, _⟩ => show 2 * (c % 20) + 2 ≤ 40 by omega
    | ⟨1, _⟩ => show 0 + 256 ≤ 256 by omega)

/-- Columns `256 c …` of x. -/
def ldX (x : Vec F S256x5120 .bf16) (c : Nat) : Vec F S256x256 .bf16 :=
  View.ld x (Rect.unit (s := S256x5120) ![0, 256 * (c % 20)] S256x256.size fun a =>
    match a with
    | ⟨0, _⟩ => show 0 + 256 ≤ 256 by omega
    | ⟨1, _⟩ => show 256 * (c % 20) + 256 ≤ 5120 by omega)

/-- Step `c` of a projection. -/
def step (x : Vec F S256x5120 .bf16) (w : Vec F S2560x256 .i8) (s mn : Vec F S40x256 .bf16) (c : Nat) : FVec F S256x256 .f32 :=
  chunk (ldW w c) (ldS s c) (ldS mn c) (ldX x c)

/-- The steps `0 … c` of a projection, each added to the sum of those before it. -/
def steps (x : Vec F S256x5120 .bf16) (w : Vec F S2560x256 .i8) (s mn : Vec F S40x256 .bf16) : Nat → FVec F S256x256 .f32
  | 0 => step x w s mn 0
  | c + 1 => addf (steps x w s mn c) (step x w s mn (c + 1))

set_option maxRecDepth 8192 in
/-- The block the body stores: the gated product of the two projections, each the sum of its twenty steps. -/
theorem out_eq (x0 : Vec F S256x5120 .bf16) (x1 : Vec F S2560x256 .i8) (x2 x3 : Vec F S40x256 .bf16)
    (x4 : Vec F S2560x256 .i8) (x5 x6 : Vec F S40x256 .bf16) :
    out0_7 x0 x1 x2 x3 x4 x5 x6
      = truncf .bf16 (mulf (mulf (steps x0 x1 x2 x3 19) (logistic (steps x0 x1 x2 x3 19))) (steps x0 x4 x5 x6 19))
          bitsLt_bf16_f32 := by
  unfold out0_7
  rw [View.canon_unit_zero (by funext a; fin_cases a <;> rfl)]
  rfl

end Defs

/-! ## Over the extended reals, at a position -/

/-- A load of step `c` at a position: byte rows, group rows and columns of x at the step's offset. -/
theorem ldW_apply (w : Vec Ideal S2560x256 .i8) (c : Fin 20) (k : Fin 128) (j : Fin 256) :
    ldW (F := Ideal) w c.val (ix2 k j) = w (ix2 ⟨128 * c.val + k.val, by omega⟩ j) := by
  have hc : c.val % 20 = c.val := Nat.mod_eq_of_lt c.isLt
  refine View.ld_unit_apply_of w _ _ _ (ix2 k j) _ fun a => ?_
  match a with
  | ⟨0, _⟩ => show 128 * c.val + k.val = 128 * (c.val % 20) + k.val; rw [hc]
  | ⟨1, _⟩ => show j.val = 0 + j.val; rw [Nat.zero_add]

theorem ldS_apply (s : Vec Ideal S40x256 .bf16) (c : Fin 20) (k : Fin 2) (j : Fin 256) :
    ldS (F := Ideal) s c.val (ix2 k j) = s (ix2 ⟨2 * c.val + k.val, by omega⟩ j) := by
  have hc : c.val % 20 = c.val := Nat.mod_eq_of_lt c.isLt
  refine View.ld_unit_apply_of s _ _ _ (ix2 k j) _ fun a => ?_
  match a with
  | ⟨0, _⟩ => show 2 * c.val + k.val = 2 * (c.val % 20) + k.val; rw [hc]
  | ⟨1, _⟩ => show j.val = 0 + j.val; rw [Nat.zero_add]

theorem ldX_apply (x : Vec Ideal S256x5120 .bf16) (c : Fin 20) (r k : Fin 256) :
    ldX (F := Ideal) x c.val (ix2 r k) = x (ix2 r ⟨256 * c.val + k.val, by omega⟩) := by
  have hc : c.val % 20 = c.val := Nat.mod_eq_of_lt c.isLt
  refine View.ld_unit_apply_of x _ _ _ (ix2 r k) _ fun a => ?_
  match a with
  | ⟨0, _⟩ => show r.val = 0 + r.val; rw [Nat.zero_add]
  | ⟨1, _⟩ => show 256 * c.val + k.val = 256 * (c.val % 20) + k.val; rw [hc]

/-- The steps `0 … c` added up are the sum of the steps. -/
theorem steps_eq_sum (x : Vec Ideal S256x5120 .bf16) (w : Vec Ideal S2560x256 .i8) (s mn : Vec Ideal S40x256 .bf16)
    (i : S256x256.Idx) (c : Nat) :
    steps (F := Ideal) x w s mn c i = ∑ n ∈ Finset.range (c + 1), step (F := Ideal) x w s mn n i := by
  induction c with
  | zero => rw [Finset.sum_range_one]; rfl
  | succ c ih => rw [Finset.sum_range_succ, ← ih]; rfl

/-- All twenty steps at (r, j): the product of row r of x with column j of the weights. -/
theorem steps_apply (x : Vec Ideal S256x5120 .bf16) (w : Vec Ideal S2560x256 .i8) (s mn : Vec Ideal S40x256 .bf16)
    (r j : Fin 256) :
    steps (F := Ideal) x w s mn 19 (ix2 r j)
      = proj (fun K => x (ix2 r K)) (fun R => w (ix2 R j)) (fun g => s (ix2 g j)) (fun g => mn (ix2 g j)) := by
  rw [steps_eq_sum, proj_eq_steps, Finset.sum_range]
  refine Finset.sum_congr rfl fun c _ => ?_
  unfold step
  rw [chunk_apply]
  refine Finset.sum_congr rfl fun k _ => ?_
  rw [ldX_apply, ldW_apply, ldS_apply, ldS_apply]

/-- The stored block at (r, j). -/
theorem out_apply (x0 : Vec Ideal S256x5120 .bf16) (x1 : Vec Ideal S2560x256 .i8) (x2 x3 : Vec Ideal S40x256 .bf16)
    (x4 : Vec Ideal S2560x256 .i8) (x5 x6 : Vec Ideal S40x256 .bf16) (r j : Fin 256) :
    out0_7 (F := Ideal) x0 x1 x2 x3 x4 x5 x6 (ix2 r j)
      = swiglu (proj (fun K => x0 (ix2 r K)) (fun R => x1 (ix2 R j)) (fun g => x2 (ix2 g j)) (fun g => x3 (ix2 g j)))
          (proj (fun K => x0 (ix2 r K)) (fun R => x4 (ix2 R j)) (fun g => x5 (ix2 g j)) (fun g => x6 (ix2 g j))) := by
  rw [out_eq, ← steps_apply, ← steps_apply]
  rfl

end Cert.Proof

end
-- ==== Proof.Result.lean ====
/-
  Hand-written, untrusted. THE RESULT ARRAY AS ONE FUNCTION OF THE ARGUMENT ARRAYS. `result` is the gated product at every
  position (r, n) of the 256×2560 result: row r of x against column n of the two quantized matrices. Both programs are shown
  to leave it: the kernel in Proof/Array.lean, the reference in Proof/Reference.lean.
-/
module

public import proofs.«01_k».proof.Proof.Spec
public import Idealize.ShloMosaic.Lib.Pointwise.Index

@[expose] public section

noncomputable section

namespace Cert.Proof

open Idealize.ShloMosaic

/-- The result array: x, then for the gate its packed codes, scales and minima, then the same for the up projection. -/
def result (x : (⟨3, ![256, 1, 5120]⟩ : Shape).Idx → EReal)
    (wg : (⟨2, ![2560, 2560]⟩ : Shape).Idx → BitVec 8) (sg mg : (⟨2, ![40, 2560]⟩ : Shape).Idx → EReal)
    (wu : (⟨2, ![2560, 2560]⟩ : Shape).Idx → BitVec 8) (su mu : (⟨2, ![40, 2560]⟩ : Shape).Idx → EReal)
    (i : (⟨2, ![256, 2560]⟩ : Shape).Idx) : EReal :=
  swiglu
    (proj (fun K => x (ix3 (i 0) 0 K)) (fun R => wg (ix2 R (i 1))) (fun g => sg (ix2 g (i 1))) (fun g => mg (ix2 g (i 1))))
    (proj (fun K => x (ix3 (i 0) 0 K)) (fun R => wu (ix2 R (i 1))) (fun g => su (ix2 g (i 1))) (fun g => mu (ix2 g (i 1))))

end Cert.Proof

end
-- ==== Proof.Array.lean ====
/-
  Hand-written, untrusted. WHAT THE KERNEL'S RESULT ARRAY HOLDS. The grid has ten points; point t has all of x and columns
  256 t … 256 t + 255 of every other operand, and writes the same columns of the result. So each position of the result is
  written by one point, from the argument arrays at its own row and column, and the array is `result` of the arguments.
-/
module

public import proofs.«01_k».proof.Proof.Block
public import proofs.«01_k».proof.Proof.Result
public import proofs.«01_k».proof.Proof.Gen.KernelIdeal.Value
public import Idealize.ShloMosaic.Lib.Pipeline.ValueKit
public import Idealize.ShloMosaic.Lib.Claim

@[expose] public section

noncomputable section

namespace Cert.Proof

open Idealize.ShloMosaic Idealize.ShloMosaic.TcCoe Cert.KernelIdeal Cert.KernelIdeal.Gen
open Idealize.ShloMosaic.Pipeline (Dat)

variable (m : (ℓ : Loc nD τ sig) → Buf (Elt Ideal) ℓ)

/-- The index maps: x's window stays, every other window is at column block `t`. -/
theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])
theorem idx4 : ∀ t : Fin cfg0.N, win0_4.index t = ![0, t.val] := (by decide +kernel : ∀ t : Fin grid0.N, win0_4.index t = ![0, t.val])
theorem idx5 : ∀ t : Fin cfg0.N, win0_5.index t = ![0, t.val] := (by decide +kernel : ∀ t : Fin grid0.N, win0_5.index t = ![0, t.val])
theorem idx6 : ∀ t : Fin cfg0.N, win0_6.index t = ![0, t.val] := (by decide +kernel : ∀ t : Fin grid0.N, win0_6.index t = ![0, t.val])
theorem idx7 : ∀ t : Fin cfg0.N, win0_7.index t = ![0, t.val] := (by decide +kernel : ∀ t : Fin grid0.N, win0_7.index t = ![0, t.val])

/-! ## The blocks at point `t`, read at a position -/

/-- x's block is all of x (which the program first flattens from 256×1×5120 to 256×5120). -/
theorem iblk0 (c : Dev nD) (t : Fin cfg0.N) (r : Fin 256) (K : Fin 5120) :
    iblk m c 0 t (ix2 r K) = m ((c : Thread nD τ).loc main_arg0) (ix3 r 0 K) := by
  have e : ((win0_0.blk t).view.emb (ix2 r K) : S256x5120.Idx) = ix2 r K := by blk_ext [idx0 t]
  show V m c main_v0 ((win0_0.blk t).view.emb (ix2 r K)) = _
  rw [e]
  entry_read
  pointwise

theorem iblk1 (c : Dev nD) (t : Fin cfg0.N) (R : Fin 2560) (j : Fin 256) (n : Fin 2560) (hn : n.val = t.val * 256 + j.val) :
    iblk m c 1 t (ix2 R j) = m ((c : Thread nD τ).loc main_arg1) (ix2 R n) := by
  blk_ext [iblk, V, idx1 t]

theorem iblk2 (c : Dev nD) (t : Fin cfg0.N) (g : Fin 40) (j : Fin 256) (n : Fin 2560) (hn : n.val = t.val * 256 + j.val) :
    iblk m c 2 t (ix2 g j) = m ((c : Thread nD τ).loc main_arg2) (ix2 g n) := by
  blk_ext [iblk, V, idx2 t]

theorem iblk3 (c : Dev nD) (t : Fin cfg0.N) (g : Fin 40) (j : Fin 256) (n : Fin 2560) (hn : n.val = t.val * 256 + j.val) :
    iblk m c 3 t (ix2 g j) = m ((c : Thread nD τ).loc main_arg3) (ix2 g n) := by
  blk_ext [iblk, V, idx3 t]

theorem iblk4 (c : Dev nD) (t : Fin cfg0.N) (R : Fin 2560) (j : Fin 256) (n : Fin 2560) (hn : n.val = t.val * 256 + j.val) :
    iblk m c 4 t (ix2 R j) = m ((c : Thread nD τ).loc main_arg4) (ix2 R n) := by
  blk_ext [iblk, V, idx4 t]

theorem iblk5 (c : Dev nD) (t : Fin cfg0.N) (g : Fin 40) (j : Fin 256) (n : Fin 2560) (hn : n.val = t.val * 256 + j.val) :
    iblk m c 5 t (ix2 g j) = m ((c : Thread nD τ).loc main_arg5) (ix2 g n) := by
  blk_ext [iblk, V, idx5 t]

theorem iblk6 (c : Dev nD) (t : Fin cfg0.N) (g : Fin 40) (j : Fin 256) (n : Fin 2560) (hn : n.val = t.val * 256 + j.val) :
    iblk m c 6 t (ix2 g j) = m ((c : Thread nD τ).loc main_arg6) (ix2 g n) := by
  blk_ext [iblk, V, idx6 t]

/-! ## The array -/

/-- Position `y` of the block that point `t` stores is `result` at the position of the array under it: the same row, and
    column `256 t` further. -/
theorem point (c : Dev nD) (t : Fin cfg0.N) (y : S256x256.Idx) :
    out0_7 (iblk m c 0 t) (iblk m c 1 t) (iblk m c 2 t) (iblk m c 3 t) (iblk m c 4 t) (iblk m c 5 t) (iblk m c 6 t) y
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ((win0_7.blk t).view.emb y) := by
  obtain ⟨r, j, rfl⟩ : ∃ r j : Fin 256, y = ix2 r j := ⟨y 0, y 1, eq_ix2 y⟩
  have ht : t.val < 10 := t.isLt
  have e : ((win0_7.blk t).view.emb (ix2 r j) : S256x2560.Idx) = ix2 r ⟨t.val * 256 + j.val, by omega⟩ := by
    blk_ext [idx7 t]
  rw [e, out_apply]
  simp only [iblk0 m c t, iblk1 m c t _ j ⟨t.val * 256 + j.val, by omega⟩ rfl, iblk2 m c t _ j ⟨t.val * 256 + j.val, by omega⟩ rfl,
    iblk3 m c t _ j ⟨t.val * 256 + j.val, by omega⟩ rfl, iblk4 m c t _ j ⟨t.val * 256 + j.val, by omega⟩ rfl,
    iblk5 m c t _ j ⟨t.val * 256 + j.val, by omega⟩ rfl, iblk6 m c t _ j ⟨t.val * 256 + j.val, by omega⟩ rfl]
  rfl

/-- The kernel's result array is `result` of the argument arrays. -/
theorem array_eq (c : Dev nD) :
    (dats m 0 c).arrAt 7 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t hf y => ?_
  blk_simp
  rw [after0_7]
  exact point m c t y

end Cert.Proof

end
-- ==== Proof.Reference.lean ====
/-
  Hand-written, untrusted. WHAT THE REFERENCE COMPUTES. The reference unpacks the low and the high codes of every byte of a
  weight matrix into two 40×64×2560 arrays (group, row of bytes in the group, column), forms `code * scale + minimum` of each,
  contracts the even columns of x with the first and the odd columns with the second over group and row at once, adds the two
  products, and returns `gate * (1 / (1 + exp (-gate))) * up`. Read at a position (r, n) over the extended reals this is
  `result`: the two contractions are the two halves of `proj` (`proj_eq_halves`), and the quotient is `logistic`.
-/
module

public import proofs.«01_k».proof.Proof.Gen.ReferenceIdeal.Run
public import proofs.«01_k».proof.Proof.Result
public import Idealize.ShloMosaic.Lib.TwoAxisContraction
public import Idealize.ShloMosaic.Lib.Pointwise

@[expose] public section

noncomputable section

namespace Cert.Proof.Ref

open Idealize.ShloMosaic Idealize.ShloMosaic.TcCoe Cert.ReferenceIdeal Cert.ReferenceIdeal.Gen
open scoped BigOperators

section Defs
variable {F : FTy → Type} [FloatOps F]

/-- The even (`o = 0`) columns of x by group and row. -/
def even (x : Vec F S256x1x5120 .bf16) : FVec F S256x1x40x64 .bf16 :=
  shapeCast _ (extractStridedSlice S256x1x40x64x1 ![0, 0, 0, 0, 0] (shapeCast _ x shapeCasts_S256x1x5120_S256x1x40x64x2)
    slices_S256x1x40x64x2_S256x1x40x64x1_0_0_0_0_0) shapeCasts_S256x1x40x64x1_S256x1x40x64

/-- The odd columns of x by group and row. -/
def odd (x : Vec F S256x1x5120 .bf16) : FVec F S256x1x40x64 .bf16 :=
  shapeCast _ (extractStridedSlice S256x1x40x64x1 ![0, 0, 0, 0, 1] (shapeCast _ x shapeCasts_S256x1x5120_S256x1x40x64x2)
    slices_S256x1x40x64x2_S256x1x40x64x1_0_0_0_0_1) shapeCasts_S256x1x40x64x1_S256x1x40x64

/-- A matrix's bytes, widened, by group and row. -/
def bytes (w : Vec F S2560x2560 .i8) : IVec S40x64x2560 32 :=
  shapeCast _ (extui 32 w natLt_8_32) shapeCasts_S2560x2560_S40x64x2560

/-- A group's row of scales or minima, repeated over the group's 64 rows of bytes. -/
def spread (s : Vec F S40x2560 .bf16) : FVec F S40x64x2560 .bf16 :=
  broadcastInDim S40x64x2560 ![0, 1, 2] bcast_S40x1x2560_S40x64x2560_0_1_2
    (broadcastInDim S40x1x2560 ![0, 2] bcast_S40x2560_S40x1x2560_0_2 s)

/-- The weights of the low codes (the even rows of the matrix). -/
def low (w : Vec F S2560x2560 .i8) (s mn : Vec F S40x2560 .bf16) : FVec F S40x64x2560 .bf16 :=
  addf (mulf (sitofp .bf16 (andi (bytes w) (broadcastInDim S40x64x2560 ![] bcast_S_S40x64x2560 (constantI S_ 32 15#32)))) (spread s))
    (spread mn)

/-- The weights of the high codes (the odd rows). -/
def high (w : Vec F S2560x2560 .i8) (s mn : Vec F S40x2560 .bf16) : FVec F S40x64x2560 .bf16 :=
  addf (mulf (sitofp .bf16 (Host.shrsi (bytes w) (broadcastInDim S40x64x2560 ![] bcast_S_S40x64x2560 (constantI S_ 32 4#32)))) (spread s))
    (spread mn)

/-- A projection: even columns by low weights plus odd columns by high weights. -/
def project (x : Vec F S256x1x5120 .bf16) (w : Vec F S2560x2560 .i8) (s mn : Vec F S40x2560 .bf16) : FVec F S256x1x2560 .f32 :=
  addf (Host.dotGeneral dot_S256x1x40x64_S40x64x2560_S256x1x2560_23_01_01_2_n_n none (even x) (low w s mn))
    (Host.dotGeneral dot_S256x1x40x64_S40x64x2560_S256x1x2560_23_01_01_2_n_n none (odd x) (high w s mn))

/-- `x * (1 / (1 + exp (-x)))`. -/
def silu (g : FVec F S256x1x2560 .f32) : FVec F S256x1x2560 .f32 :=
  mulf g (Host.divf (broadcastInDim S256x1x2560 ![] bcast_S_S256x1x2560 (constant S_ .f32 0x3F800000#32))
    (addf (broadcastInDim S256x1x2560 ![] bcast_S_S256x1x2560 (constant S_ .f32 0x3F800000#32)) (Host.exp (Host.negf g))))

/-- The reference's result from its arguments. -/
def ref (x : Vec F S256x1x5120 .bf16) (wg : Vec F S2560x2560 .i8) (sg mg : Vec F S40x2560 .bf16) (wu : Vec F S2560x2560 .i8)
    (su mu : Vec F S40x2560 .bf16) : FVec F S256x2560 .bf16 :=
  shapeCast _ (truncf .bf16 (mulf (silu (project x wg sg mg)) (project x wu su mu)) bitsLt_bf16_f32) shapeCasts_S256x1x2560_S256x2560

/-- The generated term of the reference's result is `ref` of the arguments. -/
theorem res_eq (m : (ℓ : Loc nD τ sig) → Buf (Elt F) ℓ) (c : Dev nD) :
    Cert.ReferenceIdeal.Value.res_out0 m c
      = ref (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.Value.res_out0 Cert.ReferenceIdeal.Value.res_main_v54
  rfl

end Defs

/-! ## Over the extended reals, at a position -/

theorem even_apply (x : Vec Ideal S256x1x5120 .bf16) (r : Fin 256) (g : Fin 40) (k : Fin 64) :
    even (F := Ideal) x (ix4 r 0 g k) = x (ix3 r 0 ⟨128 * g.val + 2 * k.val, by omega⟩) := by
  unfold even
  pointwise
  simp only [Nat.mul_comm]

theorem odd_apply (x : Vec Ideal S256x1x5120 .bf16) (r : Fin 256) (g : Fin 40) (k : Fin 64) :
    odd (F := Ideal) x (ix4 r 0 g k) = x (ix3 r 0 ⟨128 * g.val + 2 * k.val + 1, by omega⟩) := by
  unfold odd
  pointwise
  simp only [Nat.mul_comm]

theorem bytes_apply (w : Vec Ideal S2560x2560 .i8) (g : Fin 40) (k : Fin 64) (n : Fin 2560) :
    bytes (F := Ideal) w (ix3 g k n) = (w (ix2 ⟨64 * g.val + k.val, by omega⟩ n)).setWidth 32 := by
  unfold bytes
  pointwise
  simp only [Nat.mul_comm]

theorem spread_apply (s : Vec Ideal S40x2560 .bf16) (g : Fin 40) (k : Fin 64) (n : Fin 2560) :
    spread (F := Ideal) s (ix3 g k n) = s (ix2 g n) := by
  unfold spread
  pointwise

/-- A low weight: code 0 of its byte. -/
theorem low_apply (w : Vec Ideal S2560x2560 .i8) (s mn : Vec Ideal S40x2560 .bf16) (g : Fin 40) (k : Fin 64) (n : Fin 2560) :
    low (F := Ideal) w s mn (ix3 g k n)
      = ((code (w (ix2 ⟨64 * g.val + k.val, by omega⟩ n)) 0 : ℝ) : EReal) * s (ix2 g n) + mn (ix2 g n) := by
  have h : low (F := Ideal) w s mn (ix3 g k n)
      = (((IntOp.andi (bytes (F := Ideal) w (ix3 g k n)) 15#32).toInt : ℝ) : EReal) * spread (F := Ideal) s (ix3 g k n)
        + spread (F := Ideal) mn (ix3 g k n) := rfl
  rw [h, bytes_apply, spread_apply, spread_apply, low_code, Int.cast_natCast]

/-- A high weight: code 1 of its byte. -/
theorem high_apply (w : Vec Ideal S2560x2560 .i8) (s mn : Vec Ideal S40x2560 .bf16) (g : Fin 40) (k : Fin 64) (n : Fin 2560) :
    high (F := Ideal) w s mn (ix3 g k n)
      = ((code (w (ix2 ⟨64 * g.val + k.val, by omega⟩ n)) 1 : ℝ) : EReal) * s (ix2 g n) + mn (ix2 g n) := by
  have h : high (F := Ideal) w s mn (ix3 g k n)
      = (((IntOp.shrsi .host (bytes (F := Ideal) w (ix3 g k n)) 4#32).toInt : ℝ) : EReal) * spread (F := Ideal) s (ix3 g k n)
        + spread (F := Ideal) mn (ix3 g k n) := rfl
  rw [h, bytes_apply, spread_apply, spread_apply, high_code, Int.cast_natCast]

/-- A contraction over group and row, at a position: the double sum of the products. -/
theorem dot_apply (a : FVec Ideal S256x1x40x64 .bf16) (b : FVec Ideal S40x64x2560 .bf16) (r : Fin 256) (n : Fin 2560) :
    (Host.dotGeneral dot_S256x1x40x64_S40x64x2560_S256x1x2560_23_01_01_2_n_n none a b : FVec Ideal S256x1x2560 .f32) (ix3 r 0 n)
      = ∑ g : Fin 40, ∑ k : Fin 64, a (ix4 r 0 g k) * b (ix3 g k n) := by
  pointwise

/-- A projection at a position is the product of a row of x with a column of weights. -/
theorem project_apply (x : Vec Ideal S256x1x5120 .bf16) (w : Vec Ideal S2560x2560 .i8) (s mn : Vec Ideal S40x2560 .bf16)
    (r : Fin 256) (n : Fin 2560) :
    project (F := Ideal) x w s mn (ix3 r 0 n)
      = proj (fun K => x (ix3 r 0 K)) (fun R => w (ix2 R n)) (fun g => s (ix2 g n)) (fun g => mn (ix2 g n)) := by
  rw [proj_eq_halves]
  show (Host.dotGeneral _ none (even (F := Ideal) x) (low (F := Ideal) w s mn) : FVec Ideal S256x1x2560 .f32) (ix3 r 0 n)
    + (Host.dotGeneral _ none (odd (F := Ideal) x) (high (F := Ideal) w s mn) : FVec Ideal S256x1x2560 .f32) (ix3 r 0 n) = _
  rw [dot_apply, dot_apply]
  simp only [even_apply, odd_apply, low_apply, high_apply]

/-- `silu` at a position: the value times its logistic. -/
theorem silu_apply (g : FVec Ideal S256x1x2560 .f32) (i : S256x1x2560.Idx) :
    silu (F := Ideal) g i = g i * Ideal.logistic (g i) := by
  unfold silu Ideal.logistic
  pointwise

/-- The reference's result array is `result` of the arguments. -/
theorem ref_eq (x : Vec Ideal S256x1x5120 .bf16) (wg : Vec Ideal S2560x2560 .i8) (sg mg : Vec Ideal S40x2560 .bf16)
    (wu : Vec Ideal S2560x2560 .i8) (su mu : Vec Ideal S40x2560 .bf16) :
    ref (F := Ideal) x wg sg mg wu su mu = result x wg sg mg wu su mu := by
  funext i
  obtain ⟨r, n, rfl⟩ : ∃ (r : Fin 256) (n : Fin 2560), i = ix2 r n := ⟨i 0, i 1, eq_ix2 i⟩
  have h : ref (F := Ideal) x wg sg mg wu su mu (ix2 r n)
      = silu (F := Ideal) (project (F := Ideal) x wg sg mg) (ix3 r 0 n) * project (F := Ideal) x wu su mu (ix3 r 0 n) := by
    unfold ref
    pointwise
  rw [h, silu_apply, project_apply, project_apply]
  rfl

end Cert.Proof.Ref

end
-- ==== Proof.lean ====
/-
  Hand-written, untrusted. The proof of `Cert.Claim` (proof/Defs.lean): the frames of the kernel, its idealization and the
  reference's, the preservation of the kernel by its idealization, and the algebraic claim. Both programs' results are the one
  function `result` of the arguments (Proof/Result.lean): the kernel's array by `array_eq` (Proof/Array.lean, over the blocks of
  Proof/Block.lean), the reference's by `ref_eq` (Proof/Reference.lean).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its run, and it has no semaphore. -/
theorem reference_frame : Cert.quiescent_ReferenceIdeal (hReferenceIdeal := Cert.ReferenceIdeal.Gen.facts) := by
  intro m g _
  refine (θ_run (Cert.ReferenceIdeal.defs (F := Ideal)) _ _).mono (fun r h => ?_) (Cert.ReferenceIdeal.Value.run (F := Ideal) m g)
  exact ⟨fun c => (h c).2, sem_eq_zero_of_no_sems rfl _⟩

/-- `Cert.algebraic_KernelIdeal_ReferenceIdeal`: both run, and from equal arguments both results are `result` of them. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 7 Cert.KernelIdeal.cfg0.N,
    Cert.KernelIdeal.Value.run_blocks (F := Ideal) m g, ?_⟩
  refine (θ_run (Cert.ReferenceIdeal.defs (F := Ideal)) _ _).mono (fun r h c => ?_) (Cert.ReferenceIdeal.Value.run (F := Ideal) m' g')
  obtain ⟨hv, h⟩ := h c
  obtain ⟨a0, a1, a2, a3, a4, a5, a6⟩ := hargs c
  refine ⟨hv.trans ?_, h⟩
  refine (Ref.res_eq m' c).trans ((Ref.ref_eq _ _ _ _ _ _ _).trans ?_)
  rw [a0, a1, a2, a3, a4, a5, a6]
  exact (array_eq m c).symm

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, reference_frame, trivial, algebraic⟩

end Cert.Proof

end
